-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S100000x1024 : Shape := ⟨2, ![100000, 1024]⟩
abbrev S100000x64 : Shape := ⟨2, ![100000, 64]⟩
abbrev S64 : Shape := ⟨1, ![64]⟩
abbrev S4000x1024 : Shape := ⟨2, ![4000, 1024]⟩
abbrev S4000x64 : Shape := ⟨2, ![4000, 64]⟩
abbrev S1x64 : Shape := ⟨2, ![1, 64]⟩
abbrev S64x1 : Shape := ⟨2, ![64, 1]⟩
abbrev S4000 : Shape := ⟨1, ![4000]⟩
abbrev S4000x1 : Shape := ⟨2, ![4000, 1]⟩

abbrev nBuf : Space → Nat
  | .hbm => 5
  | .vmem => 10
  | .smem => 0
  | _ => 0

abbrev bufTy : (tb : Table) → Fin (tcTables nBuf tb) → BufTy
  | .hbm, ⟨0, _⟩ => ⟨S64x1024, .f32⟩
  | .hbm, ⟨1, _⟩ => ⟨S100000x1024, .f32⟩
  | .hbm, ⟨2, _⟩ => ⟨S100000x64, .f32⟩
  | .hbm, ⟨3, _⟩ => ⟨S64, .i32⟩
  | .hbm, ⟨4, _⟩ => ⟨S64, .f32⟩
  | .local _ .vmem, ⟨0, _⟩ => ⟨S64x1024, .f32⟩
  | .local _ .vmem, ⟨1, _⟩ => ⟨S4000x1024, .f32⟩
  | .local _ .vmem, ⟨2, _⟩ => ⟨S4000x1024, .f32⟩
  | .local _ .vmem, ⟨3, _⟩ => ⟨S4000x64, .f32⟩
  | .local _ .vmem, ⟨4, _⟩ => ⟨S4000x64, .f32⟩
  | .local _ .vmem, ⟨5, _⟩ => ⟨S64, .i32⟩
  | .local _ .vmem, ⟨6, _⟩ => ⟨S64, .f32⟩
  | .local _ .vmem, ⟨7, _⟩ => ⟨S64x1024, .bf16⟩
  | .local _ .vmem, ⟨8, _⟩ => ⟨S1x64, .f32⟩
  | .local _ .vmem, ⟨9, _⟩ => ⟨S1x64, .i32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v42 : BitVec 1 := Scalar.cmpi .eq arg0 c24_i32
  let v43 : BitVec 32 := Scalar.extui v42
  let c0_i32_20 : BitVec 32 := 0#32
  let v44 : BitVec 1 := Scalar.cmpi .ne v43 c0_i32_20
  v44

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S64x1024 : Shape := ⟨2, ![64, 1024]⟩
abbrev S100000x1024 : Shape := ⟨2, ![100000, 1024]⟩
abbrev S_ : Shape := ⟨0, ![]⟩
abbrev S64 : Shape := ⟨1, ![64]⟩
abbrev S64x1 : Shape := ⟨2, ![64, 1]⟩
abbrev S100000 : Shape := ⟨1, ![100000]⟩
abbrev S100000x1 : Shape := ⟨2, ![100000, 1]⟩
abbrev S1024x64 : Shape := ⟨2, ![1024, 64]⟩
abbrev S100000x64 : Shape := ⟨2, ![100000, 64]⟩

abbrev nBuf : Space → Nat
  | .hbm => 34
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S100000x1024, .f32⟩
  | .hbm, ⟨2, _⟩ => ⟨S64x1024, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S64x1, .f32⟩
  | .hbm, ⟨7, _⟩ => ⟨S100000x1024, .f32⟩
  | .hbm, ⟨8, _⟩ => ⟨S_, .f32⟩
  | .hbm, ⟨9, _⟩ => ⟨S100000, .f32⟩
  | .hbm, ⟨10, _⟩ => ⟨S100000x1, .f32⟩
  | .hbm, ⟨11, _⟩ => ⟨S100000x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S64x1024, .f32⟩
  | .hbm, ⟨16, _⟩ => ⟨S64x1024, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S100000x1024, .f32⟩
  | .hbm, ⟨21, _⟩ => ⟨S100000x1024, .f32⟩
  | .hbm, ⟨22, _⟩ => ⟨S1024x64, .f32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S100000x64, .i32⟩
  | .hbm, ⟨28, _⟩ => ⟨S_, .f32⟩
  | .hbm, ⟨29, _⟩ => ⟨S_, .i32⟩
  | .hbm, ⟨30, _⟩ => ⟨S64, .f32⟩
  | .hbm, ⟨31, _⟩ => ⟨S64, .i32⟩
  | .hbm, ⟨32, _⟩ => ⟨S_, .f32⟩
  | .hbm, ⟨33, _⟩ => ⟨S64, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_call1_v2 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_call2_v0 : Ref sig .tc := ⟨.hbm, 27, rfl⟩
abbrev main_call2_cst : Ref sig .tc := ⟨.hbm, 28, rfl⟩
abbrev main_call2_c : Ref sig .tc := ⟨.hbm, 29, rfl⟩
abbrev main_call2_v1_0 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Proof.RefRun.lean ====
/- What the reference leaves in memory: its distances, the position of each query's least distance and
   that least distance, as the operations of its text applied to the two arguments; the arguments
   unchanged; every semaphore counter at zero. -/
module

public import proofs.«01_k».proof.Proof.Gen.ReferenceIdeal
public import proofs.«01_k».proof.Defs
public import Idealize.ShloMosaic.Lib.Claim
public import Idealize.ShloMosaic.Lib.Quiescent

@[expose] public section

noncomputable section

namespace Cert.ReferenceIdeal.Hand

open Idealize.ShloMosaic Idealize.SL.Sem Cert.ReferenceIdeal Cert.ReferenceIdeal.Facts₀

/-- The queries divided by their norms, a norm below the floor replaced by the floor. -/
def refQuery (q : FVec Ideal S64x1024 .f32) : FVec Ideal S64x1024 .f32 :=
  Host.divf q (broadcastInDim S64x1024 ![0, 1] bcast_S64x1_S64x1024_0_1
    (maximumf
      (Host.sqrt (broadcastInDim S64x1 ![0] bcast_S64_S64x1_0
        (Host.reduceAdd (mulf q q) (constant S_ .f32 0x00000000#32) reducesTo_S64x1024_S64_d1 h_S_)))
      (broadcastInDim S64x1 ![] bcast_S_S64x1 (constant S_ .f32 0x322BCC77#32))))

/-- The keys divided by their norms in the same way. -/
def refKeys (k : FVec Ideal S100000x1024 .f32) : FVec Ideal S100000x1024 .f32 :=
  Host.divf k (broadcastInDim S100000x1024 ![0, 1] bcast_S100000x1_S100000x1024_0_1
    (maximumf
      (Host.sqrt (broadcastInDim S100000x1 ![0] bcast_S100000_S100000x1_0
        (Host.reduceAdd (mulf k k) (constant S_ .f32 0x00000000#32) reducesTo_S100000x1024_S100000_d1 h_S_)))
      (broadcastInDim S100000x1 ![] bcast_S_S100000x1 (constant S_ .f32 0x322BCC77#32))))

/-- The cosine distance of every key to every query. -/
def refDists (q : FVec Ideal S64x1024 .f32) (k : FVec Ideal S100000x1024 .f32) : FVec Ideal S100000x64 .f32 :=
  subf (broadcastInDim S100000x64 ![] bcast_S_S100000x64 (constant S_ .f32 0x3F800000#32))
    (Host.dotGeneral dot_S100000x1024_S1024x64_S100000x64_1_0_0_1_n_n none (refKeys k)
      (transpose S1024x64 [1, 0] (refQuery q) transposes_S64x1024_S1024x64_1_0))

/-- Each query's least distance with its position, by the reducer of `jnp.argmin`. -/
def refArg (x : FVec Ideal S100000x64 .f32) : S64.Idx → Ideal .f32 × BitVec 32 :=
  Host.argReduce reducer_argmin_f32_i32 x (iotaInDim S100000x64 32 0) (constant S_ .f32 0x7F800000#32)
    (constantI S_ 32 0#32) reducesTo_S100000x64_S64_d0 h_S_

/-- Each query's least distance. -/
def refMin (x : FVec Ideal S100000x64 .f32) : FVec Ideal S64 .f32 :=
  Host.reduce FloatOps.minimumf x (constant S_ .f32 0x7F800000#32) reducesTo_S100000x64_S64_d0 h_S_

/-- The reference terminates with its arguments unchanged and every semaphore counter at zero. -/
theorem frame : Cert.quiescent_ReferenceIdeal := by
  intro m g _
  refine θ_run_mono (Q := fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ?_
    fun r h => ⟨h, sem_eq_zero_of_no_sems rfl r.2⟩
  hlo_run

/-- The reference ends with the three results named above. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v13)
        = refDists (m ((c.tc : Thread nD τ).loc main_arg0)) (m ((c.tc : Thread nD τ).loc main_arg1))
      ∧ r.2.mem ((c.tc : Thread nD τ).loc main_v14)
        = (fun j => (refArg (refDists (m ((c.tc : Thread nD τ).loc main_arg0)) (m ((c.tc : Thread nD τ).loc main_arg1))) j).2)
      ∧ r.2.mem ((c.tc : Thread nD τ).loc main_v15)
        = refMin (refDists (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  all_goals rfl

end Cert.ReferenceIdeal.Hand

end
-- ==== Proof.Cases.lean ====
/- What one grid point leaves in the outputs' staging buffers and in the carried scratch, as plain
   functions of the point's two input blocks and of what the scratch held before the point: the
   first point, a middle point and the last one, in that order. -/
module

public import proofs.«01_k».proof.Proof.Gen.KernelIdeal.Frame
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- Zero offsets on two axes. -/
theorem off2 : (![0, 0] : Fin 2 → Nat) = fun _ => 0 := by
  funext a; fin_cases a <;> rfl
/-- A zero offset on one axis. -/
theorem off1 : (![0] : Fin 1 → Nat) = fun _ => 0 := by
  funext a; fin_cases a; rfl

variable (c : Dev nD) (i : grid0.Coords) (a1 : Memref sig .tc .vmem S64x1024 .f32) (h1 : a1.IsWhole)
  (a2 : Memref sig .tc .vmem S4000x1024 .f32) (h2 : a2.IsWhole) (a3 : Memref sig .tc .vmem S4000x64 .f32) (h3 : a3.IsWhole)
  (a4 : Memref sig .tc .vmem S64 .i32) (h4 : a4.IsWhole) (a5 : Memref sig .tc .vmem S64 .f32) (h5 : a5.IsWhole)
  (a6 : Memref sig .tc .vmem S64x1024 .bf16) (h6 : a6.IsWhole) (a7 : Memref sig .tc .vmem S1x64 .f32) (h7 : a7.IsWhole)
  (a8 : Memref sig .tc .vmem S1x64 .i32) (h8 : a8.IsWhole)

/-- The running minima after a block: the block's minima where they are smaller. -/
abbrev stepMin (x1 : Vec F S4000x1024 .f32) (q : Vec F S64x1024 .bf16) (v : Vec F S1x64 .f32) : Vec F S1x64 .f32 :=
  k0_pay1 (k0_pay14 x1 q v)

/-- The running positions after block `i`: the block's positions where its minima are smaller. -/
abbrev stepArg (i : grid0.Coords) (x1 : Vec F S4000x1024 .f32) (q : Vec F S64x1024 .bf16) (v : Vec F S1x64 .f32)
    (a : Vec F S1x64 .i32) : Vec F S1x64 .i32 :=
  k0_pay2 (k0_pay10 i x1 q) (k0_pay12 a) (k0_pay13 x1 q v)

/-- The block of distances after the first point. -/
theorem out0_A_2_eq (hc0 : cond0_0 i) (hc1 : ¬cond0_1 i) (x0 : Vec F S64x1024 .f32) (x1 : Vec F S4000x1024 .f32) :
    out0_A_2 c i a1 h1 a2 h2 a3 h3 a4 h4 a5 h5 a6 h6 a7 h7 a8 h8 hc0 hc1 x0 x1 = k0_pay8 x1 (k0_pay5 x0) := by
  unfold out0_A_2
  rw [View.read_writes_eq_canon _ _ _ (cover0_A_2 c i a1 h1 a2 h2 a3 h3 a4 h4 a5 h5 a6 h6 a7 h7 a8 h8 hc0 hc1 x0 x1)]
  unfold kernelRun0_A
  dsimp only
  sl_unfold_words
  simp only [View.canon_cons_unit_zero (S := S4000x64) off2, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The normalised queries after the first point. -/
theorem sout0_A_0_eq (hc0 : cond0_0 i) (hc1 : ¬cond0_1 i) (x0 : Vec F S64x1024 .f32) (x1 : Vec F S4000x1024 .f32) :
    sout0_A_0 c i a1 h1 a2 h2 a3 h3 a4 h4 a5 h5 a6 h6 a7 h7 a8 h8 hc0 hc1 x0 x1 = k0_pay5 x0 := by
  unfold sout0_A_0
  rw [View.read_writes_eq_canon _ _ _ (scover0_A_0 c i a1 h1 a2 h2 a3 h3 a4 h4 a5 h5 a6 h6 a7 h7 a8 h8 hc0 hc1 x0 x1)]
  unfold kernelRun0_A
  dsimp only
  sl_unfold_words
  simp only [View.canon_cons_unit_zero (S := S64x1024) off2, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The running minima after the first point. -/
theorem sout0_A_1_eq (hc0 : cond0_0 i) (hc1 : ¬cond0_1 i) (x0 : Vec F S64x1024 .f32) (x1 : Vec F S4000x1024 .f32) :
    sout0_A_1 c i a1 h1 a2 h2 a3 h3 a4 h4 a5 h5 a6 h6 a7 h7 a8 h8 hc0 hc1 x0 x1 = stepMin x1 (k0_pay5 x0) (k0_pay6 (F := F)) := by
  unfold sout0_A_1
  rw [View.read_writes_eq_canon _ _ _ (scover0_A_1 c i a1 h1 a2 h2 a3 h3 a4 h4 a5 h5 a6 h6 a7 h7 a8 h8 hc0 hc1 x0 x1)]
  unfold kernelRun0_A
  dsimp only
  sl_unfold_words
  simp only [View.canon_cons_unit_zero (S := S1x64) off2, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The running positions after the first point. -/
theorem sout0_A_2_eq (hc0 : cond0_0 i) (hc1 : ¬cond0_1 i) (x0 : Vec F S64x1024 .f32) (x1 : Vec F S4000x1024 .f32) :
    sout0_A_2 c i a1 h1 a2 h2 a3 h3 a4 h4 a5 h5 a6 h6 a7 h7 a8 h8 hc0 hc1 x0 x1 = stepArg i x1 (k0_pay5 x0) (k0_pay6 (F := F)) k0_pay7 := by
  unfold sout0_A_2
  rw [View.read_writes_eq_canon _ _ _ (scover0_A_2 c i a1 h1 a2 h2 a3 h3 a4 h4 a5 h5 a6 h6 a7 h7 a8 h8 hc0 hc1 x0 x1)]
  unfold kernelRun0_A
  dsimp only
  sl_unfold_words
  simp only [View.canon_cons_unit_zero (S := S1x64) off2, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The block of distances after a middle point. -/
theorem out0_B_2_eq (hc0 : ¬cond0_0 i) (hc1 : ¬cond0_1 i) (x0 : Vec F S64x1024 .f32) (x1 : Vec F S4000x1024 .f32)
    (xs0 : Vec F S64x1024 .bf16) (xs1 : Vec F S1x64 .f32) (xs2 : Vec F S1x64 .i32) :
    out0_B_2 c i a1 h1 a2 h2 a3 h3 a4 h4 a5 h5 a6 h6 a7 h7 a8 h8 hc0 hc1 x0 x1 xs0 xs1 xs2 = k0_pay8 x1 xs0 := by
  unfold out0_B_2
  rw [View.read_writes_eq_canon _ _ _ (cover0_B_2 c i a1 h1 a2 h2 a3 h3 a4 h4 a5 h5 a6 h6 a7 h7 a8 h8 hc0 hc1 x0 x1 xs0 xs1 xs2)]
  unfold kernelRun0_B
  dsimp only
  sl_unfold_words
  simp only [View.canon_cons_unit_zero (S := S4000x64) off2, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The running minima after a middle point. -/
theorem sout0_B_1_eq (hc0 : ¬cond0_0 i) (hc1 : ¬cond0_1 i) (x0 : Vec F S64x1024 .f32) (x1 : Vec F S4000x1024 .f32)
    (xs0 : Vec F S64x1024 .bf16) (xs1 : Vec F S1x64 .f32) (xs2 : Vec F S1x64 .i32) :
    sout0_B_1 c i a1 h1 a2 h2 a3 h3 a4 h4 a5 h5 a6 h6 a7 h7 a8 h8 hc0 hc1 x0 x1 xs0 xs1 xs2 = stepMin x1 xs0 xs1 := by
  unfold sout0_B_1
  rw [View.read_writes_eq_canon _ _ _ (scover0_B_1 c i a1 h1 a2 h2 a3 h3 a4 h4 a5 h5 a6 h6 a7 h7 a8 h8 hc0 hc1 x0 x1 xs0 xs1 xs2)]
  unfold kernelRun0_B
  dsimp only
  sl_unfold_words
  simp only [View.canon_cons_unit_zero (S := S1x64) off2, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The running positions after a middle point. -/
theorem sout0_B_2_eq (hc0 : ¬cond0_0 i) (hc1 : ¬cond0_1 i) (x0 : Vec F S64x1024 .f32) (x1 : Vec F S4000x1024 .f32)
    (xs0 : Vec F S64x1024 .bf16) (xs1 : Vec F S1x64 .f32) (xs2 : Vec F S1x64 .i32) :
    sout0_B_2 c i a1 h1 a2 h2 a3 h3 a4 h4 a5 h5 a6 h6 a7 h7 a8 h8 hc0 hc1 x0 x1 xs0 xs1 xs2 = stepArg i x1 xs0 xs1 xs2 := by
  unfold sout0_B_2
  rw [View.read_writes_eq_canon _ _ _ (scover0_B_2 c i a1 h1 a2 h2 a3 h3 a4 h4 a5 h5 a6 h6 a7 h7 a8 h8 hc0 hc1 x0 x1 xs0 xs1 xs2)]
  unfold kernelRun0_B
  dsimp only
  sl_unfold_words
  simp only [View.canon_cons_unit_zero (S := S1x64) off2, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The block of distances after the last point. -/
theorem out0_C_2_eq (hc0 : ¬cond0_0 i) (hc1 : cond0_1 i) (x0 : Vec F S64x1024 .f32) (x1 : Vec F S4000x1024 .f32)
    (xs0 : Vec F S64x1024 .bf16) (xs1 : Vec F S1x64 .f32) (xs2 : Vec F S1x64 .i32) :
    out0_C_2 c i a1 h1 a2 h2 a3 h3 a4 h4 a5 h5 a6 h6 a7 h7 a8 h8 hc0 hc1 x0 x1 xs0 xs1 xs2 = k0_pay8 x1 xs0 := by
  unfold out0_C_2
  rw [View.read_writes_eq_canon _ _ _ (cover0_C_2 c i a1 h1 a2 h2 a3 h3 a4 h4 a5 h5 a6 h6 a7 h7 a8 h8 hc0 hc1 x0 x1 xs0 xs1 xs2)]
  unfold kernelRun0_C
  dsimp only
  sl_unfold_words
  simp only [View.canon_cons_unit_zero (S := S4000x64) off2, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The running minima after the last point. -/
theorem sout0_C_1_eq (hc0 : ¬cond0_0 i) (hc1 : cond0_1 i) (x0 : Vec F S64x1024 .f32) (x1 : Vec F S4000x1024 .f32)
    (xs0 : Vec F S64x1024 .bf16) (xs1 : Vec F S1x64 .f32) (xs2 : Vec F S1x64 .i32) :
    sout0_C_1 c i a1 h1 a2 h2 a3 h3 a4 h4 a5 h5 a6 h6 a7 h7 a8 h8 hc0 hc1 x0 x1 xs0 xs1 xs2 = stepMin x1 xs0 xs1 := by
  unfold sout0_C_1
  rw [View.read_writes_eq_canon _ _ _ (scover0_C_1 c i a1 h1 a2 h2 a3 h3 a4 h4 a5 h5 a6 h6 a7 h7 a8 h8 hc0 hc1 x0 x1 xs0 xs1 xs2)]
  unfold kernelRun0_C
  dsimp only
  sl_unfold_words
  simp only [View.canon_cons_unit_zero (S := S1x64) off2, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The running positions after the last point. -/
theorem sout0_C_2_eq (hc0 : ¬cond0_0 i) (hc1 : cond0_1 i) (x0 : Vec F S64x1024 .f32) (x1 : Vec F S4000x1024 .f32)
    (xs0 : Vec F S64x1024 .bf16) (xs1 : Vec F S1x64 .f32) (xs2 : Vec F S1x64 .i32) :
    sout0_C_2 c i a1 h1 a2 h2 a3 h3 a4 h4 a5 h5 a6 h6 a7 h7 a8 h8 hc0 hc1 x0 x1 xs0 xs1 xs2 = stepArg i x1 xs0 xs1 xs2 := by
  unfold sout0_C_2
  rw [View.read_writes_eq_canon _ _ _ (scover0_C_2 c i a1 h1 a2 h2 a3 h3 a4 h4 a5 h5 a6 h6 a7 h7 a8 h8 hc0 hc1 x0 x1 xs0 xs1 xs2)]
  unfold kernelRun0_C
  dsimp only
  sl_unfold_words
  simp only [View.canon_cons_unit_zero (S := S1x64) off2, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The output of the positions after the last point. -/
theorem out0_C_3_eq (hc0 : ¬cond0_0 i) (hc1 : cond0_1 i) (x0 : Vec F S64x1024 .f32) (x1 : Vec F S4000x1024 .f32)
    (xs0 : Vec F S64x1024 .bf16) (xs1 : Vec F S1x64 .f32) (xs2 : Vec F S1x64 .i32) :
    out0_C_3 c i a1 h1 a2 h2 a3 h3 a4 h4 a5 h5 a6 h6 a7 h7 a8 h8 hc0 hc1 x0 x1 xs0 xs1 xs2 = k0_pay4 (stepArg i x1 xs0 xs1 xs2) := by
  unfold out0_C_3
  rw [View.read_writes_eq_canon _ _ _ (cover0_C_3 c i a1 h1 a2 h2 a3 h3 a4 h4 a5 h5 a6 h6 a7 h7 a8 h8 hc0 hc1 x0 x1 xs0 xs1 xs2)]
  unfold kernelRun0_C
  dsimp only
  sl_unfold_words
  simp only [View.canon_cons_unit_zero (S := S64) off1, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

/-- The output of the minima after the last point. -/
theorem out0_C_4_eq (hc0 : ¬cond0_0 i) (hc1 : cond0_1 i) (x0 : Vec F S64x1024 .f32) (x1 : Vec F S4000x1024 .f32)
    (xs0 : Vec F S64x1024 .bf16) (xs1 : Vec F S1x64 .f32) (xs2 : Vec F S1x64 .i32) :
    out0_C_4 c i a1 h1 a2 h2 a3 h3 a4 h4 a5 h5 a6 h6 a7 h7 a8 h8 hc0 hc1 x0 x1 xs0 xs1 xs2 = k0_pay3 (stepMin x1 xs0 xs1) := by
  unfold out0_C_4
  rw [View.read_writes_eq_canon _ _ _ (cover0_C_4 c i a1 h1 a2 h2 a3 h3 a4 h4 a5 h5 a6 h6 a7 h7 a8 h8 hc0 hc1 x0 x1 xs0 xs1 xs2)]
  unfold kernelRun0_C
  dsimp only
  sl_unfold_words
  simp only [View.canon_cons_unit_zero (S := S64) off1, View.readCov_unit_zero (S := S64x1024) _ off2, View.readCov_unit_zero (S := S1x64) _ off2,
    View.readAt_eq_ld, h1.read_unread, h2.read_unread, h6.read_unread, h7.read_unread, h8.read_unread,
    View.ld_unit_zero (S := S64x1024) off2, View.ld_unit_zero (S := S4000x1024) off2, View.ld_unit_zero (S := S1x64) off2]

end Cert.KernelIdeal.Hand

end
-- ==== Proof.Column.lean ====
/- The mathematics of "the least value of a column and the first place it stands at", on plain functions
   from row numbers to extended reals: what characterises the pair, that only one pair fits, and how the
   pair of a longer column follows from the pairs of its two parts. -/
module

public import Mathlib.Data.EReal.Basic
public import Mathlib.Data.Finset.Fold

@[expose] public section

namespace Cert.Column

/-- `m` is the least of the first `N` values of `D`, with `⊤` for none, and `a` the first row that holds it;
    where every value is `⊤`, `a` is 0. -/
structure IsArg (D : ℕ → EReal) (N : ℕ) (m : EReal) (a : ℕ) : Prop where
  le : ∀ r < N, m ≤ D r
  first : (m = ⊤ ∧ a = 0) ∨ (m < ⊤ ∧ a < N ∧ D a = m ∧ ∀ r < a, m < D r)

/-- No rows at all. -/
theorem isArg_zero (D : ℕ → EReal) : IsArg D 0 ⊤ 0 :=
  ⟨fun _ h => absurd h (Nat.not_lt_zero _), .inl ⟨rfl, rfl⟩⟩

/-- One of two such minima is at most the other. -/
theorem IsArg.value_le {D : ℕ → EReal} {N : ℕ} {m m' : EReal} {a a' : ℕ} (h : IsArg D N m a) (h' : IsArg D N m' a') :
    m ≤ m' := by
  rcases h'.first with ⟨e, -⟩ | ⟨-, ha, e, -⟩
  · rw [e]; exact le_top
  · rw [← e]; exact h.le a' ha

/-- Only one pair fits a column. -/
theorem IsArg.unique {D : ℕ → EReal} {N : ℕ} {m m' : EReal} {a a' : ℕ} (h : IsArg D N m a) (h' : IsArg D N m' a') :
    m = m' ∧ a = a' := by
  have e : m = m' := le_antisymm (h.value_le h') (h'.value_le h)
  subst e
  refine ⟨rfl, ?_⟩
  rcases h.first with ⟨t, z⟩ | ⟨t, -, e, f⟩ <;> rcases h'.first with ⟨t', z'⟩ | ⟨t', -, e', f'⟩
  · rw [z, z']
  · exact absurd t t'.ne
  · exact absurd t' t.ne
  · rcases lt_trichotomy a a' with l | l | l
    · exact absurd e (f' a l).ne'
    · exact l
    · exact absurd e' (f a' l).ne'

/-- A column that agrees on its first `N` rows has the same pair. -/
theorem IsArg.congr {D D' : ℕ → EReal} {N : ℕ} {m : EReal} {a : ℕ} (h : IsArg D N m a) (e : ∀ r < N, D r = D' r) :
    IsArg D' N m a := by
  refine ⟨fun r hr => (e r hr) ▸ h.le r hr, h.first.imp id ?_⟩
  rintro ⟨t, ha, d, f⟩
  exact ⟨t, ha, (e a ha) ▸ d, fun r hr => (e r (hr.trans ha)) ▸ f r hr⟩

/-- The pair of a part of `K` rows out of the part's minimum `b` and the least row number `p` of those that hold
    it, `p` being at least `K` where there is none. -/
theorem isArg_of_block {D : ℕ → EReal} {K : ℕ} {b : EReal} {p : ℕ} (hK : 0 < K) (hle : ∀ r < K, b ≤ D r)
    (hb : b = ⊤ ∨ ∃ r < K, D r = b) (hp : ∀ r < K, D r = b → p ≤ r) (hp' : K ≤ p ∨ D p = b) : IsArg D K b p := by
  refine ⟨hle, ?_⟩
  rcases hb with e | ⟨r, hr, e⟩
  · subst e
    exact .inl ⟨rfl, Nat.le_zero.mp (hp 0 hK (top_le_iff.mp (hle 0 hK)))⟩
  · have hpr := hp r hr e
    have hpK : p < K := lt_of_le_of_lt hpr hr
    have hd : D p = b := hp'.resolve_left (not_le.mpr hpK)
    rcases eq_or_lt_of_le (le_top (a := b)) with t | t
    · subst t
      exact .inl ⟨rfl, Nat.le_zero.mp (hp 0 hK (top_le_iff.mp (hle 0 hK)))⟩
    · exact .inr ⟨t, hpK, hd, fun s hs => lt_of_le_of_ne (hle s (hs.trans hpK))
        fun q => absurd (hp s (hs.trans hpK) q.symm) (not_le.mpr hs)⟩

/-- A part of `K` rows behind the first `N`: the pair of all of them is the part's where its minimum is smaller,
    and the old pair otherwise. -/
theorem IsArg.append {D : ℕ → EReal} {N K : ℕ} {m b : EReal} {a p : ℕ} (h : IsArg D N m a)
    (h' : IsArg (fun r => D (N + r)) K b p) :
    IsArg D (N + K) (if b < m then b else m) (if b < m then N + p else a) := by
  have split : ∀ {x : EReal}, x ≤ m → x ≤ b → ∀ r < N + K, x ≤ D r := by
    intro x hm hb r hr
    rcases lt_or_ge r N with l | l
    · exact hm.trans (h.le r l)
    · have := h'.le (r - N) (by omega)
      rw [show N + (r - N) = r by omega] at this
      exact hb.trans this
  by_cases c : b < m
  · rw [if_pos c, if_pos c]
    refine ⟨split c.le le_rfl, .inr ?_⟩
    rcases h'.first with ⟨e, -⟩ | ⟨t, hp, d, f⟩
    · exact absurd (e ▸ c) not_top_lt
    · refine ⟨t, by omega, d, fun r hr => ?_⟩
      rcases lt_or_ge r N with l | l
      · exact lt_of_lt_of_le c (h.le r l)
      · have := f (r - N) (by omega)
        rwa [show N + (r - N) = r by omega] at this
  · rw [if_neg c, if_neg c]
    refine ⟨split le_rfl (not_lt.mp c), h.first.imp id ?_⟩
    rintro ⟨t, ha, d, f⟩
    exact ⟨t, by omega, d, f⟩

/-- A left fold by an operation that returns one of its operands, and one that is below both in the order `R`:
    the result is below the start and below every element, and it is the start or an element. -/
theorem foldl_least {α : Type} (R : α → α → Prop) (refl : ∀ a, R a a) (trans : ∀ a b c, R a b → R b c → R a c)
    (f : α → α → α) (hl : ∀ a b, R (f a b) a) (hr : ∀ a b, R (f a b) b) (hm : ∀ a b, f a b = a ∨ f a b = b)
    (l : List α) (x : α) :
    R (l.foldl f x) x ∧ (∀ p ∈ l, R (l.foldl f x) p) ∧ (l.foldl f x = x ∨ l.foldl f x ∈ l) := by
  induction l generalizing x with
  | nil => exact ⟨refl x, fun p hp => (List.not_mem_nil hp).elim, .inl rfl⟩
  | cons y l ih =>
    obtain ⟨i, j, k⟩ := ih (f x y)
    rw [List.foldl_cons]
    refine ⟨trans _ _ _ i (hl x y), fun p hp => ?_, ?_⟩
    · rcases List.mem_cons.mp hp with e | e
      · rw [e]; exact trans _ _ _ i (hr x y)
      · exact j p e
    · rcases k with e | e
      · rw [e]
        exact (hm x y).imp id fun q => by rw [q]; exact List.mem_cons_self
      · exact .inr (List.mem_cons_of_mem _ e)

end Cert.Column
-- ==== Proof.Rows.lean ====
/- The mathematics of one distance: a row divided by its norm, and one minus the inner product of two such
   rows, over the extended reals. -/
module

public import Idealize.ShloMosaic.PureOps.Ideal

@[expose] public section

noncomputable section

namespace Cert.Rows

open Idealize.ShloMosaic

/-- The divisor of a row: the root of its sum of squares, or the floor where that is below it. -/
def norm (x : Fin 1024 → EReal) : EReal :=
  max (Ideal.sqrt (∑ e, x e * x e)) (Ideal.ofBits .f32 0x322BCC77#32)

/-- A row divided by its divisor. -/
def unit (x : Fin 1024 → EReal) (d : Fin 1024) : EReal := Ideal.div (x d) (norm x)

/-- One minus the inner product of the two rows, each divided by its divisor. -/
def dist (x y : Fin 1024 → EReal) : EReal := Ideal.ofBits .f32 0x3F800000#32 - ∑ d, unit x d * unit y d

end Cert.Rows

end
-- ==== Proof.Block.lean ====
/- What the kernel's stored values are at an index: the normalised queries, a block of distances, the block's
   minima with their positions, and one step of the running minima and positions. -/
module

public import proofs.«01_k».proof.Proof.Cases
public import proofs.«01_k».proof.Proof.Column
public import proofs.«01_k».proof.Proof.Rows
public import Idealize.ShloMosaic.Lib.ValueIdx
public import Idealize.ShloMosaic.Lib.ValueLayout
public import Idealize.ShloMosaic.Lib.MatmulPlain
public import Idealize.ShloMosaic.Lib.IdealHost
public import Idealize.ShloMosaic.Lib.SortNet.Extract
public import Idealize.ShloMosaic.PureOps.Ideal.Laws

@[expose] public section

noncomputable section

namespace Cert.KernelIdeal.Hand

open Cert.KernelIdeal Cert.KernelIdeal.Gen
open Idealize.ShloMosaic Idealize.ShloMosaic.ValueIdx
open Cert.Column

/-- The normalised queries at a query and a coordinate. -/
theorem pay5_apply (x : FVec Ideal S64x1024 .f32) (j : Fin 64) (d : Fin 1024) :
    k0_pay5 (F := Ideal) x (ix2 j d) = Rows.unit (fun e => x (ix2 j e)) d := by
  unfold k0_pay5
  dsimp only
  rw [shapeCast_apply _ _ (ix2 j d) (ix2 j d) rfl, truncf_apply, divf_apply,
    broadcastTo_apply _ _ (ix2 j d) (ix2 j (0 : Fin 1)) (fun a => match a with | ⟨0, _⟩ => rfl | ⟨1, _⟩ => rfl), maximumf_apply]
  unfold Rows.unit Rows.norm
  refine congrArg (Ideal.div _) (congrArg (max · _) (congrArg Ideal.sqrt ?_))
  rw [shapeCast_apply _ _ (ix2 j (0 : Fin 1)) (ix1 j) (by
    rw [Shape.rowMajor_val_two, Shape.rowMajor_val_one]; show j.val = j.val * 1 + 0; omega)]
  refine (Ideal.multiReduction_add_single _ _ _ _ _ _).trans ?_
  refine Finset.sum_congr rfl fun e _ => ?_
  have l : reduces_S64x1024_S64.lift (ix1 j) e = ix2 j e := by
    funext a; match a with | ⟨0, _⟩ => rfl | ⟨1, _⟩ => rfl
  exact congrArg (fun i => x i * x i) l

/-- A block's distance at a key and a query. -/
theorem pay8_apply (x : FVec Ideal S4000x1024 .f32) (q : FVec Ideal S64x1024 .bf16) (r : Fin 4000) (j : Fin 64) :
    k0_pay8 (F := Ideal) x q (ix2 r j)
      = Ideal.ofBits .f32 0x3F800000#32 - ∑ d : Fin 1024, Rows.unit (fun e => x (ix2 r e)) d * q (ix2 j d) := by
  unfold k0_pay8
  dsimp only
  rw [subf_apply]
  refine congrArg (Ideal.ofBits .f32 0x3F800000#32 - ·) ?_
  refine (Ideal.matmul_transposedRhs_apply (M := 4000) (K := 1024) (N := 64) none _ _ _ r j).trans ?_
  rw [constant_apply, Ideal.ofBits_zero_f32, zero_add]
  refine Finset.sum_congr rfl fun d _ => congrArg (· * q (ix2 j d)) ?_
  rw [truncf_apply, divf_apply,
    broadcastTo_apply _ _ (ix2 r d) (ix2 r (0 : Fin 1)) (fun a => match a with | ⟨0, _⟩ => rfl | ⟨1, _⟩ => rfl), maximumf_apply]
  unfold Rows.unit Rows.norm
  refine congrArg (Ideal.div _) (congrArg (max · _) (congrArg Ideal.sqrt ?_))
  rw [shapeCast_apply _ _ (ix2 r (0 : Fin 1)) (ix1 r) (by
    rw [Shape.rowMajor_val_two, Shape.rowMajor_val_one]; show r.val = r.val * 1 + 0; omega)]
  refine (Ideal.multiReduction_add_single _ _ _ _ _ _).trans ?_
  refine Finset.sum_congr rfl fun e _ => ?_
  have l : reduces_S4000x1024_S4000.lift (ix1 r) e = ix2 r e := by
    funext a; match a with | ⟨0, _⟩ => rfl | ⟨1, _⟩ => rfl
  exact congrArg (fun i => x i * x i) l

/-- Column `j` of a block of distances, by row number. -/
def blockCol (x : FVec Ideal S4000x1024 .f32) (q : FVec Ideal S64x1024 .bf16) (j : Fin 64) (r : ℕ) : EReal :=
  if h : r < 4000 then k0_pay8 (F := Ideal) x q (ix2 ⟨r, h⟩ j) else ⊤

/-- The f32 word of plus infinity is the greatest extended real. -/
theorem ofBits_inf : Ideal.ofBits .f32 0x7F800000#32 = (⊤ : EReal) := by
  simp [Ideal.ofBits, Ideal.ieee]

/-- A block's minimum is the fold of `min` down the column. -/
theorem pay9_eq_fold (x : FVec Ideal S4000x1024 .f32) (q : FVec Ideal S64x1024 .bf16) (j : Fin 64) :
    k0_pay9 (F := Ideal) x q (ix1 j)
      = (Finset.univ : Finset (Fin 4000)).fold min (⊤ : EReal) (fun r => k0_pay8 (F := Ideal) x q (ix2 r j)) := by
  unfold k0_pay9
  dsimp only
  refine (multiReduction_minimumf_eq_fold _ _ _ _ _ _).trans ?_
  refine (reduces_S4000x64_S64.fold_filter_drop_single _ _ _ _).trans ?_
  have l : (k0_pay8 (F := Ideal) x q) ∘ reduces_S4000x64_S64.lift (ix1 j) = fun r : Fin 4000 => k0_pay8 (F := Ideal) x q (ix2 r j) :=
    funext fun r => congrArg (k0_pay8 (F := Ideal) x q) (by funext a; match a with | ⟨0, _⟩ => rfl | ⟨1, _⟩ => rfl)
  rw [l]
  exact congrArg (fun b => (Finset.univ : Finset (Fin 4000)).fold min b _) ofBits_inf

/-- The row number a block's row offers: its own where it holds the block's minimum, 4000 elsewhere. -/
def offer (x : FVec Ideal S4000x1024 .f32) (q : FVec Ideal S64x1024 .bf16) (j : Fin 64) (r : Fin 4000) : BitVec 32 :=
  if k0_pay8 (F := Ideal) x q (ix2 r j) = k0_pay9 (F := Ideal) x q (ix1 j) then BitVec.ofNat 32 r.val else 4000#32

/-- The least row number offered in a block. -/
def blockPos (x : FVec Ideal S4000x1024 .f32) (q : FVec Ideal S64x1024 .bf16) (j : Fin 64) : BitVec 32 :=
  (Finset.univ : Finset (Fin 4000)).fold IntOp.minsi 2147483647#32 (offer x q j)

/-- The block's positions are the least row numbers offered, counted from the block's first row. -/
theorem pay10_apply (i : grid0.Coords) (x : FVec Ideal S4000x1024 .f32) (q : FVec Ideal S64x1024 .bf16) (j : Fin 64) :
    k0_pay10 (F := Ideal) i x q (ix1 j) = blockPos x q j + BitVec.ofNat 32 (i 0).val * 4000#32 := by
  unfold k0_pay10
  dsimp only
  refine congrArg (· + BitVec.ofNat 32 (i 0).val * 4000#32) ?_
  refine (multiReductionI_eq_fold _ _ _ _ _ _).trans ?_
  refine (reduces_S4000x64_S64.fold_filter_drop_single _ _ _ _).trans ?_
  refine congrArg (fun f => (Finset.univ : Finset (Fin 4000)).fold IntOp.minsi 2147483647#32 f) (funext fun (r : Fin 4000) => ?_)
  have l : reduces_S4000x64_S64.lift (ix1 j) r = (ix2 r j : S4000x64.Idx) := by
    funext a; match a with | ⟨0, _⟩ => rfl | ⟨1, _⟩ => rfl
  refine (congrArg (select _ _ _) l).trans ?_
  rw [select_apply, cmpf_apply, broadcastTo_apply _ _ (ix2 r j) (ix2 (0 : Fin 1) j) (fun a => match a with | ⟨0, _⟩ => rfl | ⟨1, _⟩ => rfl),
    shapeCast_a_1a_apply, iota_single_apply, broadcast_apply, Ideal.cmpf_def]
  unfold offer
  by_cases e : k0_pay8 (F := Ideal) x q (ix2 r j) = k0_pay9 (F := Ideal) x q (ix1 j)
  · rw [if_pos e, e]
    simp [Ideal.cmp, Scalar.select]
  · rw [if_neg e]
    simp [Ideal.cmp, Scalar.select, e]

/-- The integer of the least row number offered. -/
theorem blockPos_toInt (x : FVec Ideal S4000x1024 .f32) (q : FVec Ideal S64x1024 .bf16) (j : Fin 64) :
    (blockPos x q j).toInt = (Finset.univ : Finset (Fin 4000)).fold min (2147483647 : ℤ) (fun r => (offer x q j r).toInt) :=
  (Finset.fold_hom (op' := min) (m := BitVec.toInt) SortNet.toInt_minsi).symm

/-- The integer of the row number a row offers. -/
theorem offer_toInt (x : FVec Ideal S4000x1024 .f32) (q : FVec Ideal S64x1024 .bf16) (j : Fin 64) (r : Fin 4000) :
    (offer x q j r).toInt
      = if k0_pay8 (F := Ideal) x q (ix2 r j) = k0_pay9 (F := Ideal) x q (ix1 j) then (r.val : ℤ) else 4000 := by
  unfold offer
  split
  · have := r.isLt
    rw [BitVec.toInt_eq_toNat_of_lt (by rw [BitVec.toNat_ofNat]; omega), BitVec.toNat_ofNat]; omega
  · rfl

/-- The block's minimum and the least row number offered are the pair of the block's column. -/
theorem block_isArg (x : FVec Ideal S4000x1024 .f32) (q : FVec Ideal S64x1024 .bf16) (j : Fin 64) :
    IsArg (blockCol x q j) 4000 (k0_pay9 (F := Ideal) x q (ix1 j)) (blockPos x q j).toInt.toNat := by
  have col : ∀ r (h : r < 4000), blockCol x q j r = k0_pay8 (F := Ideal) x q (ix2 ⟨r, h⟩ j) := fun r h => dif_pos h
  have pos : ∀ z : ℤ, z ≤ (blockPos x q j).toInt ↔ z ≤ 2147483647 ∧ ∀ r ∈ (Finset.univ : Finset (Fin 4000)), z ≤ (offer x q j r).toInt :=
    fun z => by rw [blockPos_toInt, Finset.le_fold_min]
  have low : 0 ≤ (blockPos x q j).toInt := (pos 0).2 ⟨by norm_num, fun r _ => by rw [offer_toInt]; split <;> omega⟩
  have up : ∀ r : Fin 4000, (blockPos x q j).toInt ≤ (offer x q j r).toInt := fun r => ((pos _).1 le_rfl).2 r (Finset.mem_univ _)
  refine isArg_of_block (by norm_num) (fun r h => ?_) ?_ (fun r h e => ?_) ?_
  · rw [col r h, pay9_eq_fold]
    exact ((Finset.le_fold_min _).1 le_rfl).2 _ (Finset.mem_univ _)
  · have := (Finset.fold_min_le (s := Finset.univ) (f := fun r : Fin 4000 => k0_pay8 (F := Ideal) x q (ix2 r j)) (b := (⊤ : EReal)) _).1 (le_of_eq (pay9_eq_fold x q j).symm)
    rcases this with t | ⟨r, -, t⟩
    · exact .inl (top_le_iff.mp t)
    · refine .inr ⟨r.val, r.isLt, ?_⟩
      rw [col r.val r.isLt]
      refine le_antisymm t ?_
      rw [pay9_eq_fold]
      exact ((Finset.le_fold_min _).1 le_rfl).2 r (Finset.mem_univ _)
  · have := up ⟨r, h⟩
    rw [offer_toInt, if_pos ((col r h).symm.trans e)] at this
    dsimp only at this
    omega
  · have := (Finset.fold_min_le (s := Finset.univ) (f := fun r : Fin 4000 => (offer x q j r).toInt) (b := (2147483647 : ℤ)) _).1 (le_of_eq (blockPos_toInt x q j).symm)
    rcases this with t | ⟨r, -, t⟩
    · exact .inl (by omega)
    · have e : (blockPos x q j).toInt = (offer x q j r).toInt := le_antisymm (up r) t
      rw [offer_toInt] at e
      by_cases c : k0_pay8 (F := Ideal) x q (ix2 r j) = k0_pay9 (F := Ideal) x q (ix1 j)
      · rw [if_pos c] at e
        rw [e, Int.toNat_natCast, col r.val r.isLt]
        exact .inr c
      · rw [if_neg c] at e
        exact .inl (by rw [e]; rfl)

/-- One step of the running minimum. -/
theorem stepMin_apply (x : FVec Ideal S4000x1024 .f32) (q : FVec Ideal S64x1024 .bf16) (v : FVec Ideal S1x64 .f32) (j : Fin 64) :
    stepMin (F := Ideal) x q v (ix2 (0 : Fin 1) j)
      = if k0_pay9 (F := Ideal) x q (ix1 j) < v (ix2 (0 : Fin 1) j) then k0_pay9 (F := Ideal) x q (ix1 j) else v (ix2 (0 : Fin 1) j) := by
  unfold stepMin k0_pay1 k0_pay14 k0_pay13 k0_pay11
  dsimp only
  rw [shapeCast_a_1a_apply, select_apply, cmpf_apply, shapeCast_1a_a_apply, Ideal.cmpf_def]
  by_cases c : k0_pay9 (F := Ideal) x q (ix1 j) < v (ix2 (0 : Fin 1) j)
  · rw [if_pos c]; simp [Ideal.cmp, Scalar.select, c]
  · rw [if_neg c]; simp [Ideal.cmp, Scalar.select, c]

/-- One step of the running position. -/
theorem stepArg_apply (i : grid0.Coords) (x : FVec Ideal S4000x1024 .f32) (q : FVec Ideal S64x1024 .bf16) (v : FVec Ideal S1x64 .f32)
    (a : IVec S1x64 32) (j : Fin 64) :
    stepArg (F := Ideal) i x q v a (ix2 (0 : Fin 1) j)
      = if k0_pay9 (F := Ideal) x q (ix1 j) < v (ix2 (0 : Fin 1) j) then k0_pay10 (F := Ideal) i x q (ix1 j) else a (ix2 (0 : Fin 1) j) := by
  unfold stepArg k0_pay2 k0_pay12 k0_pay13 k0_pay11
  dsimp only
  rw [shapeCast_a_1a_apply, select_apply, cmpf_apply, shapeCast_1a_a_apply, shapeCast_1a_a_apply, Ideal.cmpf_def]
  by_cases c : k0_pay9 (F := Ideal) x q (ix1 j) < v (ix2 (0 : Fin 1) j)
  · rw [if_pos c]; simp [Ideal.cmp, Scalar.select, c]
  · rw [if_neg c]; simp [Ideal.cmp, Scalar.select, c]

/-- The running pair over one more block: if the scratch held the pair of the rows before block `n` of a column
    `D`, and the block is `D`'s next 4000 rows, then the scratch holds the pair of all the rows up to it. -/
theorem step_isArg {D : ℕ → EReal} (n : ℕ) (hn : n < 25) (i : grid0.Coords) (hi : (i 0).val = n)
    (x : FVec Ideal S4000x1024 .f32) (q : FVec Ideal S64x1024 .bf16) (v : FVec Ideal S1x64 .f32) (a : IVec S1x64 32) (j : Fin 64)
    (hD : ∀ r (h : r < 4000), D (4000 * n + r) = k0_pay8 (F := Ideal) x q (ix2 ⟨r, h⟩ j))
    (h : IsArg D (4000 * n) (v (ix2 (0 : Fin 1) j)) (a (ix2 (0 : Fin 1) j)).toNat) :
    IsArg D (4000 * (n + 1)) (stepMin (F := Ideal) x q v (ix2 (0 : Fin 1) j))
      (stepArg (F := Ideal) i x q v a (ix2 (0 : Fin 1) j)).toNat := by
  have hb : IsArg (fun r => D (4000 * n + r)) 4000 (k0_pay9 (F := Ideal) x q (ix1 j)) (blockPos x q j).toInt.toNat :=
    (block_isArg x q j).congr fun r hr => (dif_pos hr).trans (hD r hr).symm
  have key := h.append hb
  rw [stepMin_apply, stepArg_apply, Nat.mul_succ]
  by_cases c : k0_pay9 (F := Ideal) x q (ix1 j) < v (ix2 (0 : Fin 1) j)
  · rw [if_pos c, if_pos c] at key ⊢
    have lt : (blockPos x q j).toInt.toNat < 4000 := by
      rcases hb.first with ⟨-, z⟩ | ⟨-, z, -⟩ <;> omega
    have low : 0 ≤ (blockPos x q j).toInt := by
      rw [blockPos_toInt, Finset.le_fold_min]
      exact ⟨by norm_num, fun r _ => by rw [offer_toInt]; split <;> omega⟩
    have nat : (blockPos x q j).toNat = (blockPos x q j).toInt.toNat := by
      have := (blockPos x q j).toInt_eq_toNat_cond
      split at this <;> omega
    have e : (k0_pay10 (F := Ideal) i x q (ix1 j)).toNat = 4000 * n + (blockPos x q j).toInt.toNat := by
      rw [pay10_apply, hi, BitVec.toNat_add, BitVec.toNat_mul, BitVec.toNat_ofNat, nat]
      simp only [BitVec.toNat_ofNat]
      omega
    rw [e]
    exact key
  · rw [if_neg c, if_neg c] at key ⊢
    exact key

end Cert.KernelIdeal.Hand

end
-- ==== Proof.Fold.lean ====
/- What the arrays hold after the run: each point's input blocks as parts of the arguments, the distances
   each point writes, and, by induction on the point, the normalised queries, the running minima and their
   positions in the scratch. -/
module

public import proofs.«01_k».proof.Proof.Block
public import proofs.«01_k».proof.Proof.Gen.KernelIdeal.Value

@[expose] public section

noncomputable section

namespace Cert.KernelIdeal.Hand

open Cert.KernelIdeal Cert.KernelIdeal.Gen Cert.KernelIdeal.Value
open Idealize.ShloMosaic Idealize.ShloMosaic.TcCoe Idealize.ShloMosaic.ValueIdx
open Idealize.SL Idealize.SL.Sem
open Cert.Column

variable (m : (ℓ : Loc nD τ sig) → Buf (Elt Ideal) ℓ)

/-- The queries and the keys a core was given. -/
abbrev queryOf (c : Dev nD) : FVec Ideal S64x1024 .f32 := m ((c.tc : Thread nD τ).loc main_arg0)
abbrev keysOf (c : Dev nD) : FVec Ideal S100000x1024 .f32 := m ((c.tc : Thread nD τ).loc main_arg1)

/-- The distance of a key to a query. -/
def distOf (q : FVec Ideal S64x1024 .f32) (k : FVec Ideal S100000x1024 .f32) (r : Fin 100000) (j : Fin 64) : EReal :=
  Rows.dist (fun e => k (ix2 r e)) (fun e => q (ix2 j e))

/-- A query's distances, by key number. -/
def colOf (q : FVec Ideal S64x1024 .f32) (k : FVec Ideal S100000x1024 .f32) (j : Fin 64) (r : ℕ) : EReal :=
  if h : r < 100000 then distOf q k ⟨r, h⟩ j else ⊤

/-- The queries' window stays, the keys' window is at the point's own block, and the point's coordinate is its
    number. -/
theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem coord0 : ∀ t : Fin cfg0.N, (grid0.coords t 0).val = t.val :=
  (by decide +kernel : ∀ t : Fin grid0.N, _)

/-- A point sees all the queries … -/
theorem iblk0_apply (c : Dev nD) (t : Fin cfg0.N) (j : Fin 64) (d : Fin 1024) :
    iblk m c 0 t (ix2 j d) = queryOf m c (ix2 j d) := by
  obtain ⟨e0, e1⟩ := index0 t
  show queryOf m c (((cfg0.win 0).blk t).view.emb (ix2 j d)) = _
  refine congrArg (queryOf m c) (Shape.idx_ext₂ ?_ ?_)
  · show win0_0.index t (0 : Fin 2) * 64 + 1 * j.val = j.val
    rw [e0]; omega
  · show win0_0.index t (1 : Fin 2) * 1024 + 1 * d.val = d.val
    rw [e1]; omega

/-- … and its own 4000 keys. -/
theorem iblk1_apply (c : Dev nD) (t : Fin cfg0.N) (r : Fin 4000) (d : Fin 1024) (h : 4000 * t.val + r.val < 100000) :
    iblk m c 1 t (ix2 r d) = keysOf m c (ix2 ⟨4000 * t.val + r.val, h⟩ d) := by
  obtain ⟨e0, e1⟩ := index1 t
  show keysOf m c (((cfg0.win 1).blk t).view.emb (ix2 r d)) = _
  refine congrArg (keysOf m c) (Shape.idx_ext₂ ?_ ?_)
  · show win0_1.index t (0 : Fin 2) * 4000 + 1 * r.val = 4000 * t.val + r.val
    rw [e0]; omega
  · show win0_1.index t (1 : Fin 2) * 1024 + 1 * d.val = d.val
    rw [e1]; omega

/-- The scratch's queries: the arguments' normalised. -/
abbrev unitOf (c : Dev nD) : FVec Ideal S64x1024 .bf16 := k0_pay5 (F := Ideal) (queryOf m c)

/-- A point's query block is the whole argument. -/
theorem iblk0_eq (c : Dev nD) (t : Fin cfg0.N) : iblk m c 0 t = queryOf m c := by
  funext y
  obtain ⟨j, d, rfl⟩ : ∃ (j : Fin 64) (d : Fin 1024), y = ix2 j d := ⟨y 0, y 1, eq_ix2 y⟩
  exact iblk0_apply m c t j d

/-- A point's block of distances. -/
theorem block_dist (c : Dev nD) (t : Fin cfg0.N) (r : Fin 4000) (j : Fin 64) (h : 4000 * t.val + r.val < 100000) :
    k0_pay8 (F := Ideal) (iblk m c 1 t) (unitOf m c) (ix2 r j)
      = distOf (queryOf m c) (keysOf m c) ⟨4000 * t.val + r.val, h⟩ j := by
  rw [pay8_apply]
  unfold distOf Rows.dist
  refine congrArg (Ideal.ofBits .f32 0x3F800000#32 - ·) (Finset.sum_congr rfl fun d _ => ?_)
  rw [show unitOf m c (ix2 j d) = _ from pay5_apply _ j d, show (fun e => iblk m c 1 t (ix2 r e)) = fun e => keysOf m c (ix2 ⟨4000 * t.val + r.val, h⟩ e) from
    funext fun e => iblk1_apply m c t r e h]

/-- What the scratch and the distances' staging buffer hold after a point: the point's distances, the normalised
    queries, and each query's running pair over the rows so far. -/
theorem after_point (c : Dev nD) (n : ℕ) (hn : n < cfg0.N) :
    (outsAt0 m c n hn).1 = k0_pay8 (F := Ideal) (iblk m c 1 ⟨n, hn⟩) (unitOf m c)
    ∧ (outsAt0 m c n hn).2.2.2.1 = unitOf m c
    ∧ ∀ j : Fin 64, IsArg (colOf (queryOf m c) (keysOf m c) j) (4000 * (n + 1))
        ((outsAt0 m c n hn).2.2.2.2.1 (ix2 (0 : Fin 1) j)) ((outsAt0 m c n hn).2.2.2.2.2 (ix2 (0 : Fin 1) j)).toNat := by
  have hN : n < 25 := lt_of_lt_of_eq hn (show cfg0.N = 25 from N_0)
  have hD : ∀ (j : Fin 64) (r : ℕ) (h : r < 4000), colOf (queryOf m c) (keysOf m c) j (4000 * n + r)
      = k0_pay8 (F := Ideal) (iblk m c 1 ⟨n, hn⟩) (unitOf m c) (ix2 ⟨r, h⟩ j) := by
    intro j r h
    have hr : 4000 * n + r < 100000 := by omega
    exact (dif_pos hr).trans (block_dist m c ⟨n, hn⟩ ⟨r, h⟩ j hr).symm
  induction n with
  | zero =>
    rw [outsAt0_A m c ⟨0, hn⟩ rfl (by simp)]
    refine ⟨?_, ?_, fun j => ?_⟩
    · dsimp only; rw [out0_A_2_eq, iblk0_eq]
    · dsimp only; rw [sout0_A_0_eq, iblk0_eq]
    · dsimp only
      rw [sout0_A_1_eq, sout0_A_2_eq, iblk0_eq]
      refine step_isArg 0 hN _ (coord0 ⟨0, hn⟩) _ _ _ _ j (hD j) ?_
      have e1 : k0_pay6 (F := Ideal) (ix2 (0 : Fin 1) j) = (⊤ : EReal) := by
        unfold k0_pay6
        rw [shapeCast_apply _ _ (ix2 (0 : Fin 1) j) (ix2 (0 : Fin 1) j) rfl]
        exact ofBits_inf
      have e2 : k0_pay7 (ix2 (0 : Fin 1) j) = 0#32 := by
        unfold k0_pay7
        rw [shapeCast_apply _ _ (ix2 (0 : Fin 1) j) (ix2 (0 : Fin 1) j) rfl]
        rfl
      rw [e1, e2]
      exact isArg_zero _
  | succ n ih =>
    have hn' : n < cfg0.N := Nat.lt_of_succ_lt hn
    obtain ⟨-, i1, i2⟩ := ih hn' (by omega) (by
      intro j r h
      have hr : 4000 * n + r < 100000 := by omega
      exact (dif_pos hr).trans (block_dist m c ⟨n, hn'⟩ ⟨r, h⟩ j hr).symm)
    by_cases h1 : (n + 1) % 25 = 24
    · rw [outsAt0_C m c ⟨n + 1, hn⟩ (by dsimp only; omega) h1]
      refine ⟨?_, ?_, fun j => ?_⟩
      · dsimp only; rw [out0_C_2_eq]; exact congrArg _ i1
      · exact i1
      · dsimp only
        rw [sout0_C_1_eq, sout0_C_2_eq]
        simp only [Nat.add_sub_cancel, i1]
        exact step_isArg (n + 1) hN _ (coord0 ⟨n + 1, hn⟩) _ _ _ _ j (hD j) (i2 j)
    · rw [outsAt0_B m c ⟨n + 1, hn⟩ (by dsimp only; omega) h1]
      refine ⟨?_, ?_, fun j => ?_⟩
      · dsimp only; rw [out0_B_2_eq]; exact congrArg _ i1
      · exact i1
      · dsimp only
        rw [sout0_B_1_eq, sout0_B_2_eq]
        simp only [Nat.add_sub_cancel, i1]
        exact step_isArg (n + 1) hN _ (coord0 ⟨n + 1, hn⟩) _ _ _ _ j (hD j) (i2 j)

/-- The array of distances after the run. -/
theorem dists_eq (c : Dev nD) (r : Fin 100000) (j : Fin 64) :
    G2 m c (ix2 r j) = distOf (queryOf m c) (keysOf m c) r j := by
  have hp : pt2Of (ix2 r j) = r.val / 4000 := by
    show 1 * (r.val / 4000 - 0) + 1 * (j.val / 64 - 0) = _
    have := j.isLt; omega
  have hr := r.isLt
  have hb : pt2Of (ix2 r j) < cfg0.N := by
    rw [hp]; exact lt_of_lt_of_eq (by omega) N_0.symm
  have hl : loc2Of (ix2 r j) = ix2 (⟨r.val % 4000, Nat.mod_lt _ (by decide)⟩ : Fin 4000) j :=
    Shape.idx_ext₂ rfl (Nat.mod_eq_of_lt j.isLt)
  have hs : 4000 * pt2Of (ix2 r j) + r.val % 4000 = r.val := by rw [hp]; omega
  unfold G2
  rw [dif_pos hb, ← outsAt0_sweep m c _ hb, (after_point m c _ hb).1, hl,
    block_dist m c ⟨pt2Of (ix2 r j), hb⟩ _ j (lt_of_eq_of_lt hs hr)]
  exact congrArg (fun s => distOf (queryOf m c) (keysOf m c) s j) (Fin.ext hs)

/-- At the last point the two small outputs are the scratch's running positions and minima. -/
theorem last_point (c : Dev nD) (t : Fin cfg0.N) (h : t.val % 25 = 24) :
    (outsAt0 m c t.val t.isLt).2.1 = k0_pay4 (F := Ideal) (outsAt0 m c t.val t.isLt).2.2.2.2.2
    ∧ (outsAt0 m c t.val t.isLt).2.2.1 = k0_pay3 (F := Ideal) (outsAt0 m c t.val t.isLt).2.2.2.2.1 := by
  rw [outsAt0_C m c t (by omega) h]
  dsimp only
  rw [out0_C_3_eq, out0_C_4_eq, sout0_C_1_eq, sout0_C_2_eq]
  exact ⟨rfl, rfl⟩

/-- A row of one line read as a line. -/
theorem pay3_apply (v : FVec Ideal S1x64 .f32) (j : Fin 64) : k0_pay3 (F := Ideal) v (ix1 j) = v (ix2 (0 : Fin 1) j) := by
  unfold k0_pay3
  exact shapeCast_1a_a_apply _ _ j
theorem pay4_apply (v : IVec S1x64 32) (j : Fin 64) : k0_pay4 (F := Ideal) v (ix1 j) = v (ix2 (0 : Fin 1) j) := by
  unfold k0_pay4
  exact shapeCast_1a_a_apply _ _ j

/-- After the last point the two small outputs are each query's pair over all the rows. -/
theorem last_isArg (c : Dev nD) (j : Fin 64) (n : ℕ) (hn : n < cfg0.N) (h : n % 25 = 24) :
    IsArg (colOf (queryOf m c) (keysOf m c) j) (4000 * (n + 1)) ((outsAt0 m c n hn).2.2.1 (ix1 j))
      ((outsAt0 m c n hn).2.1 (ix1 j)).toNat := by
  obtain ⟨e3, e4⟩ := last_point m c ⟨n, hn⟩ h
  rw [show (outsAt0 m c n hn).2.1 = _ from e3, show (outsAt0 m c n hn).2.2.1 = _ from e4, pay3_apply, pay4_apply]
  exact (after_point m c n hn).2.2 j

/-- The two small arrays after the run are those outputs at point 24. -/
theorem small3 (c : Dev nD) (n : ℕ) (hn : n < cfg0.N) (h : n = 24) : G3 m c = (outsAt0 m c n hn).2.1 := by
  rw [G3_last m c, outsAt0_sweep m c n hn, fold0_congr m c n _ 24 _ h]
theorem small4 (c : Dev nD) (n : ℕ) (hn : n < cfg0.N) (h : n = 24) : G4 m c = (outsAt0 m c n hn).2.2.1 := by
  rw [G4_last m c, outsAt0_sweep m c n hn, fold0_congr m c n _ 24 _ h]

/-- The smallest distances and their positions after the run are each query's pair over all the keys. -/
theorem pair_isArg (c : Dev nD) (j : Fin 64) :
    IsArg (colOf (queryOf m c) (keysOf m c) j) 100000 (G4 m c (ix1 j)) (G3 m c (ix1 j)).toNat := by
  obtain ⟨n, h⟩ : ∃ n : ℕ, n = 24 := ⟨24, rfl⟩
  have hn : n < cfg0.N := by rw [h]; exact lt_of_lt_of_eq (by decide) N_0.symm
  have key := last_isArg m c j n hn (by omega)
  rw [show 4000 * (n + 1) = 100000 by omega, ← small3 m c n hn h, ← small4 m c n hn h] at key
  exact key

end Cert.KernelIdeal.Hand

end
-- ==== Proof.RefValue.lean ====
/- What the reference's three results are at an index: the distance of a key to a query, and each query's
   least distance and its first position. -/
module

public import proofs.«01_k».proof.Proof.RefRun
public import proofs.«01_k».proof.Proof.Column
public import proofs.«01_k».proof.Proof.Rows
public import Idealize.ShloMosaic.Lib.ValueIdx
public import Idealize.ShloMosaic.Lib.ValueLayout
public import Idealize.ShloMosaic.Lib.MatmulPlain
public import Idealize.ShloMosaic.Lib.IdealHost
public import Idealize.ShloMosaic.Lib.Pipeline.Value
public import Idealize.ShloMosaic.PureOps.Ideal.Laws

@[expose] public section

noncomputable section

namespace Cert.ReferenceIdeal.Hand

open Idealize.ShloMosaic Idealize.ShloMosaic.ValueIdx Cert.ReferenceIdeal Cert.ReferenceIdeal.Facts₀
open Cert.Column

/-- The shapes of the reference's reductions. -/
theorem redQuery : S64x1024.Reduces [1] S64 := by decide
theorem redKeys : S100000x1024.Reduces [1] S100000 := by decide
theorem redDists : S100000x64.Reduces [0] S64 := by decide

/-- The host's square root at an index. -/
theorem hostSqrt_apply {s : Shape} (x : FVec Ideal s .f32) (i : s.Idx) : Host.sqrt x i = Ideal.sqrt (x i) := rfl

/-- A query over its divisor. -/
theorem refQuery_apply (q : FVec Ideal S64x1024 .f32) (j : Fin 64) (d : Fin 1024) :
    refQuery q (ix2 j d) = Rows.unit (fun e => q (ix2 j e)) d := by
  have hb : broadcastInDim S64x1 ![0] bcast_S64_S64x1_0
      (Host.reduceAdd (mulf q q) (constant S_ .f32 0x00000000#32) reducesTo_S64x1024_S64_d1 h_S_) (ix2 j (0 : Fin 1))
      = ∑ e, q (ix2 j e) * q (ix2 j e) := by
    rw [broadcastInDim_apply _ _ _ (ix2 j (0 : Fin 1)) (ix1 j) (fun a => match a with | ⟨0, _⟩ => rfl),
      hostReduceAdd_apply, Ideal.hostReduceAdd_single _ redQuery, constant_apply, Ideal.ofBits_zero_f32, zero_add]
    refine Finset.sum_congr rfl fun e _ => ?_
    have l : redQuery.lift (ix1 j) e = ix2 j e := by
      funext a; match a with | ⟨0, _⟩ => rfl | ⟨1, _⟩ => rfl
    exact congrArg (fun i => q i * q i) l
  have hs : Host.sqrt (broadcastInDim S64x1 ![0] bcast_S64_S64x1_0
      (Host.reduceAdd (mulf q q) (constant S_ .f32 0x00000000#32) reducesTo_S64x1024_S64_d1 h_S_)) (ix2 j (0 : Fin 1))
      = Ideal.sqrt (∑ e, q (ix2 j e) * q (ix2 j e)) := by
    rw [hostSqrt_apply, hb]
  unfold refQuery
  rw [hostDivf_apply, broadcastInDim_apply _ _ _ (ix2 j d) (ix2 j (0 : Fin 1)) (fun a => match a with | ⟨0, _⟩ => rfl | ⟨1, _⟩ => rfl),
    maximumf_apply, broadcastInDim_scalar_apply, constant_apply, hs]
  rfl

/-- A key over its divisor. -/
theorem refKeys_apply (k : FVec Ideal S100000x1024 .f32) (r : Fin 100000) (d : Fin 1024) :
    refKeys k (ix2 r d) = Rows.unit (fun e => k (ix2 r e)) d := by
  have hb : broadcastInDim S100000x1 ![0] bcast_S100000_S100000x1_0
      (Host.reduceAdd (mulf k k) (constant S_ .f32 0x00000000#32) reducesTo_S100000x1024_S100000_d1 h_S_) (ix2 r (0 : Fin 1))
      = ∑ e, k (ix2 r e) * k (ix2 r e) := by
    rw [broadcastInDim_apply _ _ _ (ix2 r (0 : Fin 1)) (ix1 r) (fun a => match a with | ⟨0, _⟩ => rfl),
      hostReduceAdd_apply, Ideal.hostReduceAdd_single _ redKeys, constant_apply, Ideal.ofBits_zero_f32, zero_add]
    refine Finset.sum_congr rfl fun e _ => ?_
    have l : redKeys.lift (ix1 r) e = ix2 r e := by
      funext a; match a with | ⟨0, _⟩ => rfl | ⟨1, _⟩ => rfl
    exact congrArg (fun i => k i * k i) l
  have hs : Host.sqrt (broadcastInDim S100000x1 ![0] bcast_S100000_S100000x1_0
      (Host.reduceAdd (mulf k k) (constant S_ .f32 0x00000000#32) reducesTo_S100000x1024_S100000_d1 h_S_)) (ix2 r (0 : Fin 1))
      = Ideal.sqrt (∑ e, k (ix2 r e) * k (ix2 r e)) := by
    rw [hostSqrt_apply, hb]
  unfold refKeys
  rw [hostDivf_apply, broadcastInDim_apply _ _ _ (ix2 r d) (ix2 r (0 : Fin 1)) (fun a => match a with | ⟨0, _⟩ => rfl | ⟨1, _⟩ => rfl),
    maximumf_apply, broadcastInDim_scalar_apply, constant_apply, hs]
  rfl

/-- The distance of a key to a query. -/
theorem refDists_apply (q : FVec Ideal S64x1024 .f32) (k : FVec Ideal S100000x1024 .f32) (r : Fin 100000) (j : Fin 64) :
    refDists q k (ix2 r j) = Rows.dist (fun e => k (ix2 r e)) (fun e => q (ix2 j e)) := by
  unfold refDists Rows.dist
  rw [subf_apply, broadcastInDim_scalar_apply, constant_apply]
  refine congrArg (Ideal.ofBits .f32 0x3F800000#32 - ·) ?_
  simp only [Host.dotGeneral]
  rw [Ideal.dotGeneral_def]
  refine (Ideal.matmul_plain_apply (M := 100000) (K := 1024) (N := 64) none _ _ _ r j).trans ?_
  refine (zero_add _).trans (Finset.sum_congr rfl fun d _ => ?_)
  rw [refKeys_apply, transpose_ix2_apply, refQuery_apply]

/-- The f32 word of plus infinity is the greatest extended real. -/
theorem ofBits_top : Ideal.ofBits .f32 0x7F800000#32 = (⊤ : EReal) := by
  simp [Ideal.ofBits, Ideal.ieee]

/-- Column `j` of an array of distances, by row number. -/
def col (x : FVec Ideal S100000x64 .f32) (j : Fin 64) (r : ℕ) : EReal := if h : r < 100000 then x (ix2 ⟨r, h⟩ j) else ⊤

/-- Smaller value first, then the smaller position. -/
def before (p p' : Ideal .f32 × BitVec 32) : Prop :=
  (p.1 : EReal) < p'.1 ∨ ((p.1 : EReal) = p'.1 ∧ p.2.toInt ≤ p'.2.toInt)

/-- `jnp.argmin`'s reducer on extended reals: the first pair where its value is smaller, or equal with the smaller
    position, and the second otherwise. -/
theorem reducer_eq (a b : Ideal .f32 × BitVec 32) :
    reducer_argmin_f32_i32 (F := Ideal) a b = if (a.1 : EReal) < b.1 ∨ ((a.1 : EReal) = b.1 ∧ a.2.toInt < b.2.toInt) then a else b := by
  obtain ⟨a1, a2⟩ := a
  obtain ⟨b1, b2⟩ := b
  unfold reducer_argmin_f32_i32
  simp only [Ideal.cmpf_def, Ideal.cmp, IntOp.cmpi, IntOp.ori, IntOp.andi, Scalar.select, BitVec.slt]
  by_cases h1 : (a1 : EReal) < b1
  · have h2 : ¬(a1 : EReal) = b1 := h1.ne
    simp [h1, h2]
  · by_cases h2 : (a1 : EReal) = b1
    · by_cases h3 : a2.toInt < b2.toInt
      · simp [h2, h3]
      · simp [h2, h3]
    · simp [h1, h2]

/-- An entry of the list the reduction folds over is a row's value with its number. -/
theorem mem_fiber (x : FVec Ideal S100000x64 .f32) (j : Fin 64) (p : Ideal .f32 × BitVec 32) :
    p ∈ Host.argReduceFiber x (iotaInDim S100000x64 32 0) reducesTo_S100000x64_S64_d0 (ix1 j)
      ↔ ∃ r : Fin 100000, p = (x (ix2 r j), BitVec.ofNat 32 r.val) := by
  have hdrop : ∀ i : S100000x64.Idx, reducesTo_S100000x64_S64_d0.drop i = ix1 j ↔ (i 1).val = j.val := by
    intro i
    constructor
    · intro h
      rw [← reducesTo_S100000x64_S64_d0.drop_apply_val_of_eq i 0 1, h]
    · intro h
      funext b
      match b with
      | ⟨0, _⟩ => exact Fin.ext ((reducesTo_S100000x64_S64_d0.drop_apply_val_of_eq i 0 1).trans h)
  unfold Host.argReduceFiber
  simp only [List.mem_map, List.mem_filter, List.mem_finRange, true_and, decide_eq_true_eq]
  constructor
  · rintro ⟨n, hn, rfl⟩
    have hi := (hdrop _).1 hn
    refine ⟨S100000x64.rowMajor.symm n 0, ?_⟩
    have e : S100000x64.rowMajor.symm n = ix2 (S100000x64.rowMajor.symm n 0) j := Shape.idx_ext₂ rfl hi
    exact Prod.ext (congrArg x e) rfl
  · rintro ⟨r, rfl⟩
    refine ⟨S100000x64.rowMajor (ix2 r j), ?_, ?_⟩
    · rw [Equiv.symm_apply_apply]; exact (hdrop _).2 rfl
    · rw [Equiv.symm_apply_apply]; rfl

/-- A row number as a signed word. -/
theorem toInt_row (r : ℕ) (h : r < 100000) : (BitVec.ofNat 32 r).toInt = r := by
  rw [BitVec.toInt_eq_toNat_of_lt (by rw [BitVec.toNat_ofNat]; omega), BitVec.toNat_ofNat]; omega

/-- The reference's least distance and position, as `jnp.argmin`'s reducer finds them, are the pair of the
    query's column. -/
theorem refArg_isArg (x : FVec Ideal S100000x64 .f32) (j : Fin 64) :
    IsArg (col x j) 100000 (refArg x (ix1 j)).1 (refArg x (ix1 j)).2.toNat := by
  have hcol : ∀ r (h : r < 100000), col x j r = x (ix2 ⟨r, h⟩ j) := fun r h => dif_pos h
  have e : refArg x (ix1 j) = (Host.argReduceFiber x (iotaInDim S100000x64 32 0) reducesTo_S100000x64_S64_d0 (ix1 j)).foldl
      reducer_argmin_f32_i32 ((⊤ : EReal), 0#32) := by
    unfold refArg
    rw [Ideal.argReduce_eq_reduce2, Host.reduce2_eq_foldl_fiber]
    rw [show constant (F := Ideal) S_ .f32 0x7F800000#32 (Shape.Idx.first h_S_) = (⊤ : EReal) from ofBits_top]
    rfl
  obtain ⟨h0, hall, hmem⟩ := foldl_least before (fun a => .inr ⟨rfl, le_rfl⟩)
    (fun a b c h h' => by
      rcases h with h | ⟨h, k⟩ <;> rcases h' with h' | ⟨h', k'⟩
      · exact .inl (h.trans h')
      · exact .inl (h' ▸ h)
      · exact .inl (h ▸ h')
      · exact .inr ⟨h.trans h', k.trans k'⟩)
    (reducer_argmin_f32_i32 (F := Ideal))
    (fun a b => by
      rw [reducer_eq]
      split
      · exact .inr ⟨rfl, le_rfl⟩
      · rename_i h
        rcases lt_trichotomy (a.1 : EReal) b.1 with l | l | l
        · exact absurd (.inl l) h
        · exact .inr ⟨l.symm, not_lt.mp fun q => h (.inr ⟨l, q⟩)⟩
        · exact .inl l)
    (fun a b => by
      rw [reducer_eq]
      split
      · rename_i h
        exact h.imp id fun q => ⟨q.1, q.2.le⟩
      · exact .inr ⟨rfl, le_rfl⟩)
    (fun a b => by rw [reducer_eq]; split; exacts [.inl rfl, .inr rfl])
    (Host.argReduceFiber x (iotaInDim S100000x64 32 0) reducesTo_S100000x64_S64_d0 (ix1 j)) ((⊤ : EReal), 0#32)
  rw [← e] at h0 hall hmem
  generalize refArg x (ix1 j) = p at h0 hall hmem
  have row : ∀ r (h : r < 100000), before p (col x j r, BitVec.ofNat 32 r) := fun r h => by
    rw [hcol r h]; exact hall _ ((mem_fiber x j _).2 ⟨⟨r, h⟩, rfl⟩)
  refine ⟨fun r h => ?_, ?_⟩
  · rcases row r h with q | ⟨q, -⟩
    exacts [q.le, q.le]
  · rcases hmem with q | q
    · exact .inl ⟨by rw [q], by rw [q]; rfl⟩
    · obtain ⟨r, q⟩ := (mem_fiber x j p).1 q
      have hr := r.isLt
      have hv : p.1 = col x j r.val := by rw [hcol r.val r.isLt, q]
      have hn : p.2 = BitVec.ofNat 32 r.val := by rw [q]
      have hnat : p.2.toNat = r.val := by rw [hn, BitVec.toNat_ofNat]; omega
      rcases eq_or_lt_of_le (le_top (a := (p.1 : EReal))) with t | t
      · refine .inl ⟨t, ?_⟩
        rcases h0 with l | ⟨-, l⟩
        · exact absurd t l.ne
        · rw [hn, toInt_row _ hr] at l
          rw [hnat]
          have : ((0#32 : BitVec 32)).toInt = 0 := rfl
          dsimp only at l
          omega
      · refine .inr ⟨t, by omega, by rw [hnat]; exact hv.symm, fun s hs => ?_⟩
        rw [hnat] at hs
        rcases row s (by omega) with l | ⟨-, l⟩
        · exact l
        · rw [hn, toInt_row _ hr, toInt_row _ (by omega)] at l
          omega

/-- The reference's least distance, as `jnp.min` finds it, is the value of that pair. -/
theorem refMin_eq (x : FVec Ideal S100000x64 .f32) (j : Fin 64) {v : EReal} {a : ℕ} (h : IsArg (col x j) 100000 v a) :
    refMin x (ix1 j) = v := by
  have hcol : ∀ r (h : r < 100000), col x j r = x (ix2 ⟨r, h⟩ j) := fun r h => dif_pos h
  have e : refMin x (ix1 j) = (Finset.univ : Finset (Fin 100000)).fold min (⊤ : EReal) (fun r => x (ix2 r j)) := by
    unfold refMin
    refine (Host.reduce_eq_fold_single _ _ _ _ redDists _ _).trans ?_
    have l : x ∘ redDists.lift (ix1 j) = fun r : Fin 100000 => x (ix2 r j) :=
      funext fun r => congrArg x (by funext a; match a with | ⟨0, _⟩ => rfl | ⟨1, _⟩ => rfl)
    rw [l]
    exact congrArg (fun b => (Finset.univ : Finset (Fin 100000)).fold min b _) ofBits_top
  rw [e]
  refine le_antisymm ?_ ((Finset.le_fold_min _).2 ⟨le_top, fun r _ => ?_⟩)
  · rcases h.first with ⟨t, -⟩ | ⟨-, ha, d, -⟩
    · rw [t]; exact le_top
    · rw [← d, hcol a ha]
      exact ((Finset.le_fold_min _).1 le_rfl).2 _ (Finset.mem_univ _)
  · exact (h.le r.val r.isLt).trans_eq (hcol r.val r.isLt)

end Cert.ReferenceIdeal.Hand

end
-- ==== Proof.Equal.lean ====
/- The equation: the kernel's three arrays after its run are the reference's three results. -/
module

public import proofs.«01_k».proof.Defs
public import proofs.«01_k».proof.Proof.Fold
public import proofs.«01_k».proof.Proof.RefValue

@[expose] public section

noncomputable section

namespace Cert.Equal

open Idealize.ShloMosaic Idealize.ShloMosaic.ValueIdx Idealize.SL Idealize.SL.Sem
open Cert.KernelIdeal Cert.KernelIdeal.Gen Cert.KernelIdeal.Hand Cert.KernelIdeal.Value Cert.ReferenceIdeal.Hand Cert.Column

variable (m : (ℓ : Loc Cert.KernelIdeal.nD Cert.KernelIdeal.τ Cert.KernelIdeal.sig) → Buf (Elt Ideal) ℓ)

/-- The arrays of distances are equal. -/
theorem dists (c : Dev Cert.KernelIdeal.nD) : refDists (queryOf m c) (keysOf m c) = G2 m c := by
  funext y
  obtain ⟨r, j, rfl⟩ : ∃ (r : Fin 100000) (j : Fin 64), y = ix2 r j := ⟨y 0, y 1, eq_ix2 y⟩
  exact (refDists_apply _ _ r j).trans (dists_eq m c r j).symm

/-- A column of the reference's distances. -/
theorem col_eq (q : FVec Ideal Cert.KernelIdeal.S64x1024 .f32) (k : FVec Ideal Cert.KernelIdeal.S100000x1024 .f32) (j : Fin 64) :
    colOf q k j = col (refDists q k) j := by
  funext r
  unfold colOf col
  by_cases h : r < 100000
  · rw [dif_pos h, dif_pos h]
    exact (refDists_apply q k ⟨r, h⟩ j).symm
  · rw [dif_neg h, dif_neg h]

/-- The kernel's least distances and positions are the pairs of the reference's columns. -/
theorem kernel_isArg (c : Dev Cert.KernelIdeal.nD) (j : Fin 64) :
    IsArg (col (refDists (queryOf m c) (keysOf m c)) j) 100000 (G4 m c (ix1 j)) (G3 m c (ix1 j)).toNat := by
  rw [← col_eq]
  exact pair_isArg m c j

/-- The positions are equal. -/
theorem nearest (c : Dev Cert.KernelIdeal.nD) :
    (fun j => (refArg (refDists (queryOf m c) (keysOf m c)) j).2) = G3 m c := by
  funext y
  obtain ⟨j, rfl⟩ : ∃ j : Fin 64, y = ix1 j := ⟨y 0, eq_ix1 y⟩
  exact BitVec.eq_of_toNat_eq ((refArg_isArg _ j).unique (kernel_isArg m c j)).2

/-- The least distances are equal. -/
theorem smallest (c : Dev Cert.KernelIdeal.nD) : refMin (refDists (queryOf m c) (keysOf m c)) = G4 m c := by
  funext y
  obtain ⟨j, rfl⟩ : ∃ j : Fin 64, y = ix1 j := ⟨y 0, eq_ix1 y⟩
  exact refMin_eq _ j (kernel_isArg m c j)

/-- Kernel and reference, on the same arguments, end with the same three results. -/
theorem algebraic : Cert.algebraic_KernelIdeal_ReferenceIdeal := by
  intro m g m' g' _ agree
  refine ⟨fun c => G2 m c, fun c => G3 m c, fun c => G4 m c, Cert.KernelIdeal.Value.run m g, ?_⟩
  refine θ_run_mono (Cert.ReferenceIdeal.Hand.run m' g') fun r h c => ?_
  obtain ⟨h0, h1, h2, h3, h4⟩ := h c
  obtain ⟨a0, a1⟩ := agree c
  rw [a0, a1] at h0 h1 h2
  exact ⟨h0.trans (dists m c), h1.trans (nearest m c), h2.trans (smallest m c), h3, h4⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    Cert.ReferenceIdeal.Hand.frame, trivial, Cert.Equal.algebraic⟩

end Cert.Proof

end
